-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x16000 : Shape := ⟨3, ![4, 512, 16000]⟩
abbrev S4x512 : Shape := ⟨2, ![4, 512]⟩
abbrev S2048x16000 : Shape := ⟨2, ![2048, 16000]⟩
abbrev S2048x1 : Shape := ⟨2, ![2048, 1]⟩
abbrev S2048x128 : Shape := ⟨2, ![2048, 128]⟩
abbrev S2048x640 : Shape := ⟨2, ![2048, 640]⟩
abbrev S2 : Shape := ⟨1, ![2]⟩
abbrev S640x640 : Shape := ⟨2, ![640, 640]⟩
abbrev S1 : Shape := ⟨1, ![1]⟩
abbrev S4096x640 : Shape := ⟨2, ![4096, 640]⟩
abbrev S2x4096 : Shape := ⟨2, ![2, 4096]⟩
abbrev S2x640 : Shape := ⟨2, ![2, 640]⟩
abbrev S1x640 : Shape := ⟨2, ![1, 640]⟩
abbrev S1x1 : Shape := ⟨2, ![1, 1]⟩
abbrev S256x128 : Shape := ⟨2, ![256, 128]⟩
abbrev S1x128 : Shape := ⟨2, ![1, 128]⟩

abbrev nBuf : Space → Nat
  | .hbm => 9
  | .vmem => 7
  | .smem => 1
  | _ => 0

abbrev bufTy : (tb : Table) → Fin (tcTables nBuf tb) → BufTy
  | .hbm, ⟨0, _⟩ => ⟨S4x512x16000, .f32⟩
  | .hbm, ⟨1, _⟩ => ⟨S4x512, .f32⟩
  | .hbm, ⟨2, _⟩ => ⟨S4x512, .f32⟩
  | .hbm, ⟨3, _⟩ => ⟨S2048x16000, .f32⟩
  | .hbm, ⟨4, _⟩ => ⟨S2048x1, .f32⟩
  | .hbm, ⟨5, _⟩ => ⟨S2048x128, .f32⟩
  | .hbm, ⟨6, _⟩ => ⟨S2048x1, .f32⟩
  | .hbm, ⟨7, _⟩ => ⟨S2048x128, .f32⟩
  | .hbm, ⟨8, _⟩ => ⟨S2048x16000, .f32⟩
  | .local _ .vmem, ⟨0, _⟩ => ⟨S2048x640, .f32⟩
  | .local _ .vmem, ⟨1, _⟩ => ⟨S2048x640, .f32⟩
  | .local _ .vmem, ⟨2, _⟩ => ⟨S2048x128, .f32⟩
  | .local _ .vmem, ⟨3, _⟩ => ⟨S2048x128, .f32⟩
  | .local _ .vmem, ⟨4, _⟩ => ⟨S2048x640, .f32⟩
  | .local _ .vmem, ⟨5, _⟩ => ⟨S2048x640, .f32⟩
  | .local _ .vmem, ⟨6, _⟩ => ⟨S640x640, .bf16⟩
  | .local _ .smem, ⟨0, _⟩ => ⟨S2, .f32⟩
  | _, _ => ⟨S4x512x16000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch1 : Ref sig .tc := ⟨.vmem, 6, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x512x16000 : Shape := ⟨3, ![4, 512, 16000]⟩
abbrev S4x512 : Shape := ⟨2, ![4, 512]⟩
abbrev S_ : Shape := ⟨0, ![]⟩
abbrev S16000 : Shape := ⟨1, ![16000]⟩
abbrev S4x512x1 : Shape := ⟨3, ![4, 512, 1]⟩
abbrev S1x1x16000 : Shape := ⟨3, ![1, 1, 16000]⟩
abbrev S2048x16000 : Shape := ⟨2, ![2048, 16000]⟩

abbrev nBuf : Space → Nat
  | .hbm => 50
  | .vmem => 0
  | .smem => 0
  | _ => 0

abbrev bufTy : (tb : Table) → Fin (tcTables nBuf tb) → BufTy
  | .hbm, ⟨0, _⟩ => ⟨S4x512x16000, .f32⟩
  | .hbm, ⟨1, _⟩ => ⟨S4x512, .f32⟩
  | .hbm, ⟨2, _⟩ => ⟨S4x512, .f32⟩
  | .hbm, ⟨3, _⟩ => ⟨S_, .f32⟩
  | .hbm, ⟨4, _⟩ => ⟨S16000, .f32⟩
  | .hbm, ⟨5, _⟩ => ⟨S_, .f32⟩
  | .hbm, ⟨6, _⟩ => ⟨S_, .f32⟩
  | .hbm, ⟨7, _⟩ => ⟨S16000, .f32⟩
  | .hbm, ⟨8, _⟩ => ⟨S4x512x16000, .f32⟩
  | .hbm, ⟨9, _⟩ => ⟨S_, .f32⟩
  | .hbm, ⟨10, _⟩ => ⟨S16000, .f32⟩
  | .hbm, ⟨11, _⟩ => ⟨S_, .f32⟩
  | .hbm, ⟨12, _⟩ => ⟨S_, .f32⟩
  | .hbm, ⟨13, _⟩ => ⟨S16000, .f32⟩
  | .hbm, ⟨14, _⟩ => ⟨S16000, .f32⟩
  | .hbm, ⟨15, _⟩ => ⟨S_, .f32⟩
  | .hbm, ⟨16, _⟩ => ⟨S16000, .f32⟩
  | .hbm, ⟨17, _⟩ => ⟨S16000, .f32⟩
  | .hbm, ⟨18, _⟩ => ⟨S_, .f32⟩
  | .hbm, ⟨19, _⟩ => ⟨S16000, .f32⟩
  | .hbm, ⟨20, _⟩ => ⟨S16000, .f32⟩
  | .hbm, ⟨21, _⟩ => ⟨S16000, .f32⟩
  | .hbm, ⟨22, _⟩ => ⟨S_, .f32⟩
  | .hbm, ⟨23, _⟩ => ⟨S16000, .f32⟩
  | .hbm, ⟨24, _⟩ => ⟨S16000, .f32⟩
  | .hbm, ⟨25, _⟩ => ⟨S16000, .f32⟩
  | .hbm, ⟨26, _⟩ => ⟨S16000, .f32⟩
  | .hbm, ⟨27, _⟩ => ⟨S16000, .f32⟩
  | .hbm, ⟨28, _⟩ => ⟨S16000, .f32⟩
  | .hbm, ⟨29, _⟩ => ⟨S_, .f32⟩
  | .hbm, ⟨30, _⟩ => ⟨S16000, .f32⟩
  | .hbm, ⟨31, _⟩ => ⟨S16000, .f32⟩
  | .hbm, ⟨32, _⟩ => ⟨S16000, .f32⟩
  | .hbm, ⟨33, _⟩ => ⟨S_, .f32⟩
  | .hbm, ⟨34, _⟩ => ⟨S16000, .f32⟩
  | .hbm, ⟨35, _⟩ => ⟨S16000, .f32⟩
  | .hbm, ⟨36, _⟩ => ⟨S16000, .f32⟩
  | .hbm, ⟨37, _⟩ => ⟨S4x512x1, .f32⟩
  | .hbm, ⟨38, _⟩ => ⟨S1x1x16000, .f32⟩
  | .hbm, ⟨39, _⟩ => ⟨S4x512x16000, .f32⟩
  | .hbm, ⟨40, _⟩ => ⟨S4x512x16000, .f32⟩
  | .hbm, ⟨41, _⟩ => ⟨S4x512x16000, .f32⟩
  | .hbm, ⟨42, _⟩ => ⟨S4x512x16000, .f32⟩
  | .hbm, ⟨43, _⟩ => ⟨S1x1x16000, .f32⟩
  | .hbm, ⟨44, _⟩ => ⟨S4x512x16000, .f32⟩
  | .hbm, ⟨45, _⟩ => ⟨S4x512x16000, .f32⟩
  | .hbm, ⟨46, _⟩ => ⟨S4x512x1, .f32⟩
  | .hbm, ⟨47, _⟩ => ⟨S4x512x16000, .f32⟩
  | .hbm, ⟨48, _⟩ => ⟨S4x512x16000, .f32⟩
  | .hbm, ⟨49, _⟩ => ⟨S2048x16000, .f32⟩
  | _, _ => ⟨S4x512x16000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_call1_call0_cst : Ref sig .tc := ⟨.hbm, 11, rfl⟩
abbrev main_call1_call0_v0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Proof.Block.lean ====
/- What one grid point leaves behind, read at an index, for both cases of the body: the output block (forty tile stores), the two carried
   sums, and the triangular matrix. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Layer

open Cert.KernelIdeal Cert.KernelIdeal.Gen Idealize.ShloMosaic Idealize.ShloMosaic.TcCoe Idealize.SL.Sem

/-- The number of the block's first column, counted from one, as the body computes it from its grid coordinate. -/
abbrev firstOf (i : grid0.Coords) : BitVec 32 := Scalar.addi (Scalar.muli (BitVec.ofNat 32 (i 0).val) 640#32) 1#32

/-- The zero the first point stores into the carried sums. -/
abbrev zeroF : EReal := FloatOps.ofBits (F := Ideal) FTy.f32 0#32

/-- The lane numbers `0 … 639`. -/
abbrev lanes : IVec S1x640 32 := iota Kind.tc S1x640 32 [1] iota_S1x640_d1_w32

/-- Entry `(y0, y1)` of the output block of a point: the input entry less the column's mean, times the column's inverse deviation, times the
    row's scale, plus the row's shift. `X`, `G`, `B` are the input blocks, `tri` the triangular matrix, `z1` and `z2` the carried sums and `w`
    the number of the block's first column. -/
def tile (X : Vec Ideal S2048x640 .f32) (G B : Vec Ideal S2048x128 .f32) (tri : Vec Ideal S640x640 .bf16) (z1 z2 : EReal) (w : BitVec 32)
    (y0 : Fin 2048) (y1 : Fin 640) : EReal :=
  (X (ix2 y0 y1) - k0_pay8 (F := Ideal) (k0_pay3 (F := Ideal) X tri z1) lanes w (ix2 0 y1))
      * k0_pay9 (F := Ideal) (k0_pay3 (F := Ideal) X tri z1) (k0_pay4 (F := Ideal) X tri z2) lanes w (ix2 0 y1)
    * G (ix2 y0 ⟨y1.val % 128, Nat.mod_lt _ (by decide)⟩) + B (ix2 y0 ⟨y1.val % 128, Nat.mod_lt _ (by decide)⟩)

/-- One stored tile, at rows from `r` and columns from `o`, read at its local index `x`: the block's entry `(r + x 0, o + x 1)`. -/
theorem tile_entry (X : Vec Ideal S2048x640 .f32) (G B : Vec Ideal S2048x128 .f32) (mean istd : FVec Ideal S1x640 .f32)
    (r o : ℕ) (hX : ∀ a, (![r, o] : Fin 2 → ℕ) a + (![256, 128] : Fin 2 → ℕ) a ≤ S2048x640.size a)
    (hG : ∀ a, (![r, 0] : Fin 2 → ℕ) a + (![256, 128] : Fin 2 → ℕ) a ≤ S2048x128.size a)
    (hs : S1x640.Slices ![0, o] S1x128) (x : S256x128.Idx) (y0 : Fin 2048) (y1 : Fin 640)
    (h0 : y0.val = r + (x 0).val) (h1 : y1.val = o + (x 1).val) (ho : o % 128 = 0) :
    addf (mulf (mulf (subf (shapeCast S256x128 (View.ld X (Rect.unit (s := S2048x640) ![r, o] ![256, 128] hX)) shapeCasts_S256x128_S256x128)
            (broadcastTo S256x128 (extractStridedSlice S1x128 ![0, o] mean hs) broadcasts_S1x128_S256x128))
          (broadcastTo S256x128 (extractStridedSlice S1x128 ![0, o] istd hs) broadcasts_S1x128_S256x128))
        (shapeCast S256x128 (View.ld G (Rect.unit (s := S2048x128) ![r, 0] ![256, 128] hG)) shapeCasts_S256x128_S256x128))
      (shapeCast S256x128 (View.ld B (Rect.unit (s := S2048x128) ![r, 0] ![256, 128] hG)) shapeCasts_S256x128_S256x128) x
    = (X (ix2 y0 y1) - mean (ix2 0 y1)) * istd (ix2 0 y1) * G (ix2 y0 ⟨y1.val % 128, Nat.mod_lt _ (by decide)⟩)
      + B (ix2 y0 ⟨y1.val % 128, Nat.mod_lt _ (by decide)⟩) := by
  simp only [shapeCast_self]
  idx_vars x
  pointwise
  change y0.val = r + x0.val at h0
  change y1.val = o + x1.val at h1
  blk_point []

/-- The first carried sum, loaded through its one-cell rectangle. -/
theorem ld_carry0 (Z : Vec Ideal S2 .f32) (i : (Rect.unit (s := S2) ![0] ![1] inb_S2_S1_0).shape.Idx) :
    View.ld Z (Rect.unit (s := S2) ![0] ![1] inb_S2_S1_0) i = Z (ix1 0) :=
  View.ld_unit_apply_of Z ![0] ![1] inb_S2_S1_0 i (ix1 0) fun a => by
    have hi : (i 0).val < 1 := (i 0).isLt
    fin_cases a
    show 0 = 0 + (i 0).val
    omega

/-- The second carried sum, loaded through its one-cell rectangle. -/
theorem ld_carry1 (Z : Vec Ideal S2 .f32) (i : (Rect.unit (s := S2) ![1] ![1] inb_S2_S1_1).shape.Idx) :
    View.ld Z (Rect.unit (s := S2) ![1] ![1] inb_S2_S1_1) i = Z (ix1 1) :=
  View.ld_unit_apply_of Z ![1] ![1] inb_S2_S1_1 i (ix1 1) fun a => by
    have hi : (i 0).val < 1 := (i 0).isLt
    fin_cases a
    show 1 = 1 + (i 0).val
    omega

/-- Two one-cell stores that fill the carried pair, read at the first cell. -/
theorem canon_carry0 (w0 w1 : EReal) (L : List (View.Piece (Elt Ideal) S2 .f32)) :
    View.canon (⟨Rect.unit (s := S2) ![1] ![1] inb_S2_S1_1, fun _ => w1⟩ :: ⟨Rect.unit (s := S2) ![0] ![1] inb_S2_S1_0, fun _ => w0⟩ :: L) (ix1 0) = w0 := by
  rw [View.canon_cons_of_not_mem]
  · rw [show (ix1 0 : S2.Idx) = (Rect.unit (s := S2) ![0] ![1] inb_S2_S1_0).emb (ix1 0) from by blk_ext]
    exact View.canon_cons_emb _ _ _ _
  · intro hm
    have h0 := ((Rect.mem_set_unit (inb := inb_S2_S1_1)).mp hm 0).1
    exact absurd h0 (by decide)

/-- Two one-cell stores that fill the carried pair, read at the second cell. -/
theorem canon_carry1 (w1 : EReal) (L : List (View.Piece (Elt Ideal) S2 .f32)) :
    View.canon (⟨Rect.unit (s := S2) ![1] ![1] inb_S2_S1_1, fun _ => w1⟩ :: L) (ix1 1) = w1 := by
  rw [show (ix1 1 : S2.Idx) = (Rect.unit (s := S2) ![1] ![1] inb_S2_S1_1).emb (ix1 0) from by blk_ext]
  exact View.canon_cons_emb _ _ _ _

section A

variable (c : Dev nD) (i : grid0.Coords)
    (arg1 : Memref sig .tc .vmem S2048x640 .f32) (harg1 : arg1.IsWhole)
    (arg2 : Memref sig .tc .vmem S2048x128 .f32) (harg2 : arg2.IsWhole)
    (arg3 : Memref sig .tc .vmem S2048x128 .f32) (harg3 : arg3.IsWhole)
    (arg4 : Memref sig .tc .vmem S2048x640 .f32) (harg4 : arg4.IsWhole)
    (arg5 : Memref sig .tc .smem S2 .f32) (harg5 : arg5.IsWhole)
    (arg6 : Memref sig .tc .vmem S640x640 .bf16) (harg6 : arg6.IsWhole) (hc0 : cond0_0 i)
   (X : Vec Ideal S2048x640 .f32) (G B : Vec Ideal S2048x128 .f32)

/-- The first point's output block: the carried sums are zero and the matrix is the triangle it has just written. -/
theorem out_A (y0 : Fin 2048) (y1 : Fin 640) :
    out0_A_3 c i arg1 harg1 arg2 harg2 arg3 harg3 arg4 harg4 arg5 harg5 arg6 harg6 hc0 X G B (ix2 y0 y1) = tile X G B (k0_pay1 (F := Ideal)) zeroF zeroF (firstOf i) y0 y1 := by
  frame_out
  unfold tile k0_pay12 k0_pay13
  dsimp only
  generalize k0_pay8 (F := Ideal) _ _ _ = mean
  generalize k0_pay9 (F := Ideal) _ _ _ _ = istd
  canon_tiles x h
  all_goals
    (change y0.val = _ at h0; change y1.val = _ at h1; open_payloads
     refine tile_entry X G B mean istd _ _ _ _ _ x y0 y1 ?_ ?_ ?_ <;> omega)

/-- The first point's first carried sum: lane 639 of the block's running sums. -/
theorem carry0_A : sout0_A_0 c i arg1 harg1 arg2 harg2 arg3 harg3 arg4 harg4 arg5 harg5 arg6 harg6 hc0 X G B (ix1 0) = k0_pay5 (F := Ideal) X (k0_pay1 (F := Ideal)) zeroF := by
  frame_out
  exact canon_carry0 _ _ _

/-- The first point's second carried sum: lane 639 of the block's running sums of squares. -/
theorem carry1_A : sout0_A_0 c i arg1 harg1 arg2 harg2 arg3 harg3 arg4 harg4 arg5 harg5 arg6 harg6 hc0 X G B (ix1 1) = k0_pay6 (F := Ideal) X (k0_pay1 (F := Ideal)) zeroF := by
  frame_out
  exact canon_carry1 _ _

/-- The first point leaves the triangle in the matrix scratch. -/
theorem tri_A : sout0_A_1 c i arg1 harg1 arg2 harg2 arg3 harg3 arg4 harg4 arg5 harg5 arg6 harg6 hc0 X G B = k0_pay1 (F := Ideal) := by
  frame_out

end A

section B

variable (c : Dev nD) (i : grid0.Coords)
    (arg1 : Memref sig .tc .vmem S2048x640 .f32) (harg1 : arg1.IsWhole)
    (arg2 : Memref sig .tc .vmem S2048x128 .f32) (harg2 : arg2.IsWhole)
    (arg3 : Memref sig .tc .vmem S2048x128 .f32) (harg3 : arg3.IsWhole)
    (arg4 : Memref sig .tc .vmem S2048x640 .f32) (harg4 : arg4.IsWhole)
    (arg5 : Memref sig .tc .smem S2 .f32) (harg5 : arg5.IsWhole)
    (arg6 : Memref sig .tc .vmem S640x640 .bf16) (harg6 : arg6.IsWhole) (hc0 : ¬cond0_0 i)
   (X : Vec Ideal S2048x640 .f32) (G B : Vec Ideal S2048x128 .f32)
    (xs0 : Vec Ideal S2 .f32) (xs1 : Vec Ideal S640x640 .bf16)

/-- A later point's output block: the carried sums and the matrix are what the point before left. -/
theorem out_B (y0 : Fin 2048) (y1 : Fin 640) :
    out0_B_3 c i arg1 harg1 arg2 harg2 arg3 harg3 arg4 harg4 arg5 harg5 arg6 harg6 hc0 X G B xs0 xs1 (ix2 y0 y1)
      = tile X G B xs1 (xs0 (ix1 0)) (xs0 (ix1 1)) (firstOf i) y0 y1 := by
  frame_out
  unfold tile k0_pay12 k0_pay13
  dsimp only
  generalize hm : k0_pay8 (F := Ideal) _ _ _ = mean
  generalize hs : k0_pay9 (F := Ideal) _ _ _ _ = istd
  rw [show k0_pay8 (F := Ideal) (k0_pay3 (F := Ideal) X xs1 (xs0 (ix1 0))) _ _ = mean from
      hm ▸ congrArg (fun z => k0_pay8 (F := Ideal) (k0_pay3 (F := Ideal) X xs1 z) _ _) (ld_carry0 _ _).symm,
    show k0_pay9 (F := Ideal) (k0_pay3 (F := Ideal) X xs1 (xs0 (ix1 0))) (k0_pay4 (F := Ideal) X xs1 (xs0 (ix1 1))) _ _ = istd from
      hs ▸ congrArg₂ (fun z w => k0_pay9 (F := Ideal) (k0_pay3 (F := Ideal) X xs1 z) (k0_pay4 (F := Ideal) X xs1 w) _ _) (ld_carry0 _ _).symm (ld_carry1 _ _).symm]
  clear hm hs
  canon_tiles x h
  all_goals
    (change y0.val = _ at h0; change y1.val = _ at h1; open_payloads
     refine tile_entry X G B mean istd _ _ _ _ _ x y0 y1 ?_ ?_ ?_ <;> omega)

/-- A later point's first carried sum: lane 639 of the running sums, the carried sum added. -/
theorem carry0_B : sout0_B_0 c i arg1 harg1 arg2 harg2 arg3 harg3 arg4 harg4 arg5 harg5 arg6 harg6 hc0 X G B xs0 xs1 (ix1 0) = k0_pay5 (F := Ideal) X xs1 (xs0 (ix1 0)) := by
  frame_out
  exact (canon_carry0 _ _ _).trans (congrArg (k0_pay5 (F := Ideal) X xs1) (ld_carry0 _ _))

/-- A later point's second carried sum: lane 639 of the running sums of squares, the carried sum added. -/
theorem carry1_B : sout0_B_0 c i arg1 harg1 arg2 harg2 arg3 harg3 arg4 harg4 arg5 harg5 arg6 harg6 hc0 X G B xs0 xs1 (ix1 1) = k0_pay6 (F := Ideal) X xs1 (xs0 (ix1 1)) := by
  frame_out
  exact (canon_carry1 _ _).trans (congrArg (k0_pay6 (F := Ideal) X xs1) (ld_carry1 _ _))

end B

end Cert.KernelIdeal.Layer

end
-- ==== Proof.Sums.lean ====
/- What the body computes of one block, read at a lane: the triangle's entries, the running sums as prefix sums over the lanes of column sums, and
   the mean and inverse deviation of a column. -/
module

public import proofs.«01_k».proof.Proof.Block
public import Idealize.ShloMosaic.Lib.WordCmp

@[expose] public section

set_option maxRecDepth 16384

noncomputable section

namespace Cert.KernelIdeal.Layer

open Cert.KernelIdeal Cert.KernelIdeal.Gen Idealize.ShloMosaic Idealize.ShloMosaic.TcCoe Idealize.SL.Sem Idealize.ShloMosaic.WordCmp

/-- The triangle: one on and above the diagonal, zero below. -/
theorem tri_apply (a b : Fin 640) : k0_pay1 (F := Ideal) (ix2 a b) = if a.val ≤ b.val then 1 else 0 := by
  pointwise [k0_pay1]
  have ha := a.isLt
  have hb := b.isLt
  rw [cmpi_sle_ofNat (by omega) (by omega)]
  by_cases h : a.val ≤ b.val <;> simp [h, Scalar.select]

/-- The first row of the stacked selector picks the block's rows, one sum. -/
theorem rows0 (f g : Fin 2048 → EReal) :
    (∑ r : Fin 2048, Scalar.select (IntOp.cmpi .eq 0#32 (BitVec.setWidth 32 (IntOp.cmpi .sge (BitVec.ofNat 32 r.val) 2048#32))) (f r) 0)
      + (∑ r : Fin 2048, Scalar.select (IntOp.cmpi .eq 0#32 (BitVec.setWidth 32 (IntOp.cmpi .sge (BitVec.ofNat 32 (2048 + r.val)) 2048#32))) (g r) 0)
      = ∑ r, f r := by
  have h1 (r : Fin 2048) : IntOp.cmpi .sge (BitVec.ofNat 32 r.val) 2048#32 = 0#1 := by
    have := r.isLt
    rw [cmpi_sge_ofNat (by omega) (by omega)]
    have e : ¬ 2048 ≤ r.val := by omega
    rw [decide_eq_false e]; rfl
  have h2 (r : Fin 2048) : IntOp.cmpi .sge (BitVec.ofNat 32 (2048 + r.val)) 2048#32 = 1#1 := by
    have := r.isLt
    rw [cmpi_sge_ofNat (by omega) (by omega)]
    simp
  simp only [h1, h2]
  rw [show (IntOp.cmpi .eq 0#32 (BitVec.setWidth 32 0#1)) = 1#1 from by decide,
    show (IntOp.cmpi .eq 0#32 (BitVec.setWidth 32 1#1)) = 0#1 from by decide]
  simp [Scalar.select]

/-- The second row of the stacked selector picks the squares. -/
theorem rows1 (f g : Fin 2048 → EReal) :
    (∑ r : Fin 2048, Scalar.select (IntOp.cmpi .eq 1#32 (BitVec.setWidth 32 (IntOp.cmpi .sge (BitVec.ofNat 32 r.val) 2048#32))) (f r) 0)
      + (∑ r : Fin 2048, Scalar.select (IntOp.cmpi .eq 1#32 (BitVec.setWidth 32 (IntOp.cmpi .sge (BitVec.ofNat 32 (2048 + r.val)) 2048#32))) (g r) 0)
      = ∑ r, g r := by
  have h1 (r : Fin 2048) : IntOp.cmpi .sge (BitVec.ofNat 32 r.val) 2048#32 = 0#1 := by
    have := r.isLt
    rw [cmpi_sge_ofNat (by omega) (by omega)]
    have e : ¬ 2048 ≤ r.val := by omega
    rw [decide_eq_false e]; rfl
  have h2 (r : Fin 2048) : IntOp.cmpi .sge (BitVec.ofNat 32 (2048 + r.val)) 2048#32 = 1#1 := by
    have := r.isLt
    rw [cmpi_sge_ofNat (by omega) (by omega)]
    simp
  simp only [h1, h2]
  rw [show (IntOp.cmpi .eq 1#32 (BitVec.setWidth 32 0#1)) = 0#1 from by decide,
    show (IntOp.cmpi .eq 1#32 (BitVec.setWidth 32 1#1)) = 1#1 from by decide]
  simp [Scalar.select]

/-- A sum over the lanes against a column of the triangle is the sum of the first lanes, through the column's own. -/
theorem sum_tri (f : Fin 640 → EReal) (b : Fin 640) :
    (∑ k : Fin 640, f k * k0_pay1 (F := Ideal) (ix2 k b)) = ∑ k ∈ Finset.range (b.val + 1), if h : k < 640 then f ⟨k, h⟩ else 0 := by
  simp only [tri_apply, mul_ite, mul_one, mul_zero]
  rw [Finset.sum_ite, Finset.sum_const_zero, add_zero]
  refine Finset.sum_bij' (fun k _ => k.val) (fun k hk => ⟨k, by have := b.isLt; have := Finset.mem_range.mp hk; omega⟩) ?_ ?_ ?_ ?_ ?_
  · intro k hk
    have := (Finset.mem_filter.mp hk).2
    exact Finset.mem_range.mpr (by omega)
  · intro k hk
    have := Finset.mem_range.mp hk
    exact Finset.mem_filter.mpr ⟨Finset.mem_univ _, by show k ≤ b.val; omega⟩
  · intro k hk; rfl
  · intro k hk; rfl
  · intro k hk; simp

/-- Row 0 of the two running sums at lane `b`: the sum over the lanes through `b` of the block's column sums. -/
theorem pay2_row0 (X : Vec Ideal S2048x640 .f32) (b : Fin 640) :
    k0_pay2 (F := Ideal) X (k0_pay1 (F := Ideal)) (ix2 0 b)
      = ∑ k ∈ Finset.range (b.val + 1), if h : k < 640 then ∑ r : Fin 2048, X (ix2 r ⟨k, h⟩) else 0 := by
  rw [← sum_tri (fun k => ∑ r : Fin 2048, X (ix2 r k)) b]
  pointwise [k0_pay2]
  exact Finset.sum_congr rfl fun k _ => congrArg (· * _) (rows0 (fun r => X (ix2 r k)) (fun r => X (ix2 r k) * X (ix2 r k)))

/-- Row 1 of the two running sums at lane `b`: the sum over the lanes through `b` of the block's column sums of squares. -/
theorem pay2_row1 (X : Vec Ideal S2048x640 .f32) (b : Fin 640) :
    k0_pay2 (F := Ideal) X (k0_pay1 (F := Ideal)) (ix2 1 b)
      = ∑ k ∈ Finset.range (b.val + 1), if h : k < 640 then ∑ r : Fin 2048, X (ix2 r ⟨k, h⟩) * X (ix2 r ⟨k, h⟩) else 0 := by
  rw [← sum_tri (fun k => ∑ r : Fin 2048, X (ix2 r k) * X (ix2 r k)) b]
  pointwise [k0_pay2]
  refine Finset.sum_congr rfl fun k _ => ?_
  have h := rows1 (fun r => X (ix2 r k)) (fun r => X (ix2 r k) * X (ix2 r k))
  rw [h]

/-- The running sums: the block's own and the carried one. -/
theorem pay3_apply (X : Vec Ideal S2048x640 .f32) (tri : Vec Ideal S640x640 .bf16) (z : EReal) (b : Fin 640) :
    k0_pay3 (F := Ideal) X tri z (ix2 0 b) = k0_pay2 (F := Ideal) X tri (ix2 0 b) + z := by
  pointwise [k0_pay3]

/-- The running sums of squares: the block's own and the carried one. -/
theorem pay4_apply (X : Vec Ideal S2048x640 .f32) (tri : Vec Ideal S640x640 .bf16) (z : EReal) (b : Fin 640) :
    k0_pay4 (F := Ideal) X tri z (ix2 0 b) = k0_pay2 (F := Ideal) X tri (ix2 1 b) + z := by
  pointwise [k0_pay4]

/-- The sum handed on is the last lane's. -/
theorem pay5_apply (X : Vec Ideal S2048x640 .f32) (tri : Vec Ideal S640x640 .bf16) (z : EReal) :
    k0_pay5 (F := Ideal) X tri z = k0_pay3 (F := Ideal) X tri z (ix2 0 639) := by
  pointwise [k0_pay5]

/-- The sum of squares handed on is the last lane's. -/
theorem pay6_apply (X : Vec Ideal S2048x640 .f32) (tri : Vec Ideal S640x640 .bf16) (z : EReal) :
    k0_pay6 (F := Ideal) X tri z = k0_pay4 (F := Ideal) X tri z (ix2 0 639) := by
  pointwise [k0_pay6]

/-- The number of entries seen through a column, `512` times the column's number counted from one, as both programs form it. -/
def count (j : ℕ) : EReal :=
  Ideal.ofBits FTy.f32 0x44000000#32 * (Ideal.ofBits FTy.f32 0x3F800000#32 + FloatOps.sitofp (F := Ideal) FTy.f32 (BitVec.ofNat 32 j))

/-- The mean of a prefix whose sum is `p` and whose count is `d`. -/
def meanOf (p d : EReal) : EReal := Ideal.div p d

/-- The inverse deviation of a prefix whose sum is `p`, whose sum of squares is `q` and whose count is `d`. -/
def istdOf (p q d : EReal) : EReal :=
  Ideal.rsqrt (Ideal.div (q - Ideal.ofBits FTy.f32 0x40000000#32 * Ideal.div p d * p) d
    + Ideal.div p d * Ideal.div p d * Ideal.ofBits FTy.f32 0x40800000#32)

/-- The divisor that the body computes at lane `b` of point `t` is the count of the entries up to column `640 t + b`. -/
theorem den_eq (t : Fin 25) (b : Fin 640) :
    Ideal.ofBits FTy.f32 1140850688#32 * ((((Scalar.addi (Scalar.muli (BitVec.ofNat 32 t.val) 640#32) 1#32).toInt : ℝ) : EReal) + FloatOps.sitofp (F := Ideal) FTy.f32 (BitVec.ofNat 32 b.val))
      = count (640 * t.val + b.val) := by
  unfold count
  refine congrArg (_ * ·) ?_
  have ht := t.isLt
  have hb := b.isLt
  have e1 : (Scalar.addi (Scalar.muli (BitVec.ofNat 32 t.val) 640#32) 1#32).toInt = (640 * t.val + 1 : ℕ) := by
    have e : Scalar.addi (Scalar.muli (BitVec.ofNat 32 t.val) 640#32) 1#32 = BitVec.ofNat 32 (t.val * 640 + 1) :=
      (congrArg (IntOp.addi · 1#32) (muli_ofNat t.val 640)).trans (addi_ofNat _ 1)
    rw [e, toInt_ofNat_of_lt (by omega)]
    omega
  have e2 (n : ℕ) (hn : n < 2 ^ 31) : FloatOps.sitofp (F := Ideal) FTy.f32 (BitVec.ofNat 32 n) = ((n : ℝ) : EReal) := by
    show (((BitVec.ofNat 32 n).toInt : ℝ) : EReal) = _
    rw [show (BitVec.ofNat 32 n).toInt = (n : ℤ) from toInt_ofNat_of_lt hn]
    simp
  rw [e1, e2 _ (by omega), e2 _ (by omega), Ideal.ofBits_one_f32]
  rw [← EReal.coe_one, ← EReal.coe_add, ← EReal.coe_add]
  refine congrArg _ ?_
  push_cast
  ring

/-- The mean row at lane `b`: the column's running sum over its count. -/
theorem mean_apply (v25 : FVec Ideal S1x640 .f32) (i : grid0.Coords) (b : Fin 640) :
    k0_pay8 (F := Ideal) v25 lanes (firstOf i) (ix2 0 b) = meanOf (v25 (ix2 0 b)) (count (640 * (i 0).val + b.val)) := by
  unfold meanOf
  rw [← den_eq (i 0) b]
  pointwise [k0_pay8, k0_pay7]

/-- The inverse deviation row at lane `b`, from the column's running sums of entries and of squares and its count. -/
theorem istd_apply (v25 v29 : FVec Ideal S1x640 .f32) (i : grid0.Coords) (b : Fin 640) :
    k0_pay9 (F := Ideal) v25 v29 lanes (firstOf i) (ix2 0 b)
      = istdOf (v25 (ix2 0 b)) (v29 (ix2 0 b)) (count (640 * (i 0).val + b.val)) := by
  unfold istdOf
  rw [← den_eq (i 0) b]
  pointwise [k0_pay9, k0_pay8, k0_pay7]

end Cert.KernelIdeal.Layer

end
-- ==== Proof.Carry.lean ====
/- The grid's points in turn: the carried sums after each are prefix sums over all the columns seen, so every entry of every output block is the
   layer norm of its column's prefix. -/
module

public import proofs.«01_k».proof.Proof.Sums

@[expose] public section

set_option maxRecDepth 16384

noncomputable section

namespace Cert.KernelIdeal.Layer

open Cert.KernelIdeal Cert.KernelIdeal.Gen Idealize.ShloMosaic Idealize.ShloMosaic.TcCoe Idealize.SL.Sem

/-- Entry `(r, j)` of an input of shape `[4, 512, 16000]` with its first two axes read as one. -/
def flat3 (x : Vec Ideal S4x512x16000 .f32) (r : Fin 2048) (j : Fin 16000) : EReal :=
  x (ix3 ⟨r.val / 512, by omega⟩ ⟨r.val % 512, Nat.mod_lt _ (by decide)⟩ j)

/-- Entry `r` of an input of shape `[4, 512]` with its axes read as one. -/
def flat2 (g : Vec Ideal S4x512 .f32) (r : Fin 2048) : EReal :=
  g (ix2 ⟨r.val / 512, by omega⟩ ⟨r.val % 512, Nat.mod_lt _ (by decide)⟩)

/-- The sum of column `j`, zero past the last column. -/
def colSum (f : Fin 2048 → Fin 16000 → EReal) (j : ℕ) : EReal := if h : j < 16000 then ∑ r, f r ⟨j, h⟩ else 0

/-- The sum of the first `n` columns. -/
def prefSum (f : Fin 2048 → Fin 16000 → EReal) (n : ℕ) : EReal := ∑ j ∈ Finset.range n, colSum f j

/-- The entries squared. -/
def sq (f : Fin 2048 → Fin 16000 → EReal) : Fin 2048 → Fin 16000 → EReal := fun r j => f r j * f r j

/-- The prefix through `n + b` columns is the prefix through `n` and the next `b` columns, added in the kernel's order. -/
theorem prefSum_add (f : Fin 2048 → Fin 16000 → EReal) (n b : ℕ) :
    prefSum f (n + b) = (∑ k ∈ Finset.range b, colSum f (n + k)) + prefSum f n := by
  unfold prefSum
  rw [Finset.sum_range_add, add_comm]

/-- Entry `(r, j)` of the result: what the layer norm makes of the entry from its column's prefix sums. -/
def normed (x : Vec Ideal S4x512x16000 .f32) (g b : Vec Ideal S4x512 .f32) (r : Fin 2048) (j : Fin 16000) : EReal :=
  (flat3 x r j - meanOf (prefSum (flat3 x) (j.val + 1)) (count j.val))
      * istdOf (prefSum (flat3 x) (j.val + 1)) (prefSum (sq (flat3 x)) (j.val + 1)) (count j.val)
    * flat2 g r + flat2 b r

/-- A point's coordinate is its number. -/
theorem coord_eq (t : Fin cfg0.N) : (grid0.coords t 0).val = t.val :=
  (by decide +kernel : ∀ t : Fin grid0.N, (grid0.coords t 0).val = t.val) t

/-- There are twenty-five points. -/
theorem lt_25 (t : Fin cfg0.N) : t.val < 25 := lt_of_lt_of_eq t.isLt N_0

/-- The input windows' block indices: the input's moves along the columns, the scale's and the shift's stay. -/
theorem idx (t : Fin cfg0.N) : win0_0.index t = ![0, t.val] ∧ win0_1.index t = ![0, 0] ∧ win0_2.index t = ![0, 0] :=
  (by decide +kernel : ∀ t : Fin grid0.N, win0_0.index t = ![0, t.val] ∧ win0_1.index t = ![0, 0] ∧ win0_2.index t = ![0, 0]) t

variable (m : (ℓ : Loc nD τ sig) → Buf (Elt Ideal) ℓ) (c : Dev nD)

/-- The input block of a point: 640 columns of the input. -/
theorem x_block (t : Fin cfg0.N) (r : Fin 2048) (k : Fin 640) :
    iblk m c 0 t (ix2 r k) = flat3 (m (c.tc.loc main_arg0)) r ⟨640 * t.val + k.val, by have := lt_25 t; omega⟩ := by
  unfold flat3
  blk_ext! [iblk, V, idx t]

/-- The scale as the region finds it: row `r`'s scale in every column. -/
theorem g_entry (r : Fin 2048) (k : Fin 128) : V m c main_call0_v2 (ix2 r k) = flat2 (m (c.tc.loc main_arg1)) r := by
  unfold flat2
  entry_read
  simp only [StableHlo.TRef.toBuf, StableHlo.TRef.ofBuf, cast_eq]
  pointwise

/-- The shift as the region finds it: row `r`'s shift in every column. -/
theorem b_entry (r : Fin 2048) (k : Fin 128) : V m c main_call0_v4 (ix2 r k) = flat2 (m (c.tc.loc main_arg2)) r := by
  unfold flat2
  entry_read
  simp only [StableHlo.TRef.toBuf, StableHlo.TRef.ofBuf, cast_eq]
  pointwise

/-- The scale's block: row `r`'s scale in every column. -/
theorem g_block (t : Fin cfg0.N) (r : Fin 2048) (k : Fin 128) : iblk m c 1 t (ix2 r k) = flat2 (m (c.tc.loc main_arg1)) r := by
  rw [← g_entry m c r k]
  show V m c main_call0_v2 (((cfg0.win 1).blk t).view.emb (ix2 r k)) = _
  refine congrArg _ ?_
  blk_ext [idx t]

/-- The shift's block: row `r`'s shift in every column. -/
theorem b_block (t : Fin cfg0.N) (r : Fin 2048) (k : Fin 128) : iblk m c 2 t (ix2 r k) = flat2 (m (c.tc.loc main_arg2)) r := by
  rw [← b_entry m c r k]
  show V m c main_call0_v4 (((cfg0.win 2).blk t).view.emb (ix2 r k)) = _
  refine congrArg _ ?_
  blk_ext [idx t]

/-- The input block of a point, at its literal shape. -/
abbrev xBlk (t : Fin cfg0.N) : Vec Ideal S2048x640 .f32 := iblk m c 0 t

/-- A prefix of a point's block sums is the matching stretch of the columns' sums. -/
theorem block_sum (t : Fin cfg0.N) (b : ℕ) (hb : b ≤ 640) :
    (∑ k ∈ Finset.range b, if h : k < 640 then ∑ r : Fin 2048, xBlk m c t (ix2 r ⟨k, h⟩) else 0)
      = ∑ k ∈ Finset.range b, colSum (flat3 (m (c.tc.loc main_arg0))) (640 * t.val + k) := by
  refine Finset.sum_congr rfl fun k hk => ?_
  have h1 := Finset.mem_range.mp hk
  have h2 := lt_25 t
  unfold colSum
  rw [dif_pos (by omega), dif_pos (by omega)]
  exact Finset.sum_congr rfl fun r _ => x_block m c t r ⟨k, by omega⟩

/-- The same for the sums of squares. -/
theorem block_sum_sq (t : Fin cfg0.N) (b : ℕ) (hb : b ≤ 640) :
    (∑ k ∈ Finset.range b, if h : k < 640 then ∑ r : Fin 2048, xBlk m c t (ix2 r ⟨k, h⟩) * xBlk m c t (ix2 r ⟨k, h⟩) else 0)
      = ∑ k ∈ Finset.range b, colSum (sq (flat3 (m (c.tc.loc main_arg0)))) (640 * t.val + k) := by
  refine Finset.sum_congr rfl fun k hk => ?_
  have h1 := Finset.mem_range.mp hk
  have h2 := lt_25 t
  unfold colSum sq
  rw [dif_pos (by omega), dif_pos (by omega)]
  exact Finset.sum_congr rfl fun r _ => congrArg (fun z : EReal => z * z) (x_block m c t r ⟨k, by omega⟩)

/-- A point's running sum at lane `b`, over a carried prefix of the columns before the block, is the prefix through lane `b`'s column. -/
theorem run_sum (t : Fin cfg0.N) (b : Fin 640) :
    k0_pay3 (F := Ideal) (iblk m c 0 t) (k0_pay1 (F := Ideal)) (prefSum (flat3 (m (c.tc.loc main_arg0))) (640 * t.val)) (ix2 0 b)
      = prefSum (flat3 (m (c.tc.loc main_arg0))) (640 * t.val + b.val + 1) := by
  rw [pay3_apply, pay2_row0, add_assoc (640 * t.val), prefSum_add, block_sum m c t _ (by omega)]

/-- The same for the running sum of squares. -/
theorem run_sum_sq (t : Fin cfg0.N) (b : Fin 640) :
    k0_pay4 (F := Ideal) (iblk m c 0 t) (k0_pay1 (F := Ideal)) (prefSum (sq (flat3 (m (c.tc.loc main_arg0)))) (640 * t.val)) (ix2 0 b)
      = prefSum (sq (flat3 (m (c.tc.loc main_arg0)))) (640 * t.val + b.val + 1) := by
  rw [pay4_apply, pay2_row1, add_assoc (640 * t.val), prefSum_add, block_sum_sq m c t _ (by omega)]

/-- At the first point the zero word is the sum of the columns before the block, of which there are none. -/
theorem zeroF_eq (f : Fin 2048 → Fin 16000 → EReal) (t : Fin cfg0.N) (h : t.val % 25 = 0) : zeroF = prefSum f (640 * t.val) := by
  have h0 : 640 * t.val = 0 := by have := lt_25 t; omega
  rw [h0]
  show Ideal.ofBits FTy.f32 0#32 = _
  rw [Ideal.ofBits_zero_f32]
  rfl

/-- What the carried state `s` holds after the columns before column `n`: their prefix sums, and the triangle. -/
def CarryOk (n : ℕ) (s : Vec Ideal S2048x640 .f32 × Vec Ideal S2 .f32 × Vec Ideal S640x640 .bf16) : Prop :=
  s.2.1 (ix1 0) = prefSum (flat3 (m (c.tc.loc main_arg0))) n
    ∧ s.2.1 (ix1 1) = prefSum (sq (flat3 (m (c.tc.loc main_arg0)))) n
    ∧ s.2.2 = k0_pay1 (F := Ideal)

/-- After the first point. -/
theorem carry_first (t : Fin cfg0.N) (h : t.val % 25 = 0) : CarryOk m c (640 * t.val + 640) (outsAt0 m c t.val t.isLt) := by
  rw [outsAt0_A m c t h]
  refine ⟨?_, ?_, ?_⟩
  · dsimp only
    rw [carry0_A, pay5_apply, zeroF_eq (flat3 (m (c.tc.loc main_arg0))) t h]
    exact run_sum m c t 639
  · dsimp only
    rw [carry1_A, pay6_apply, zeroF_eq (sq (flat3 (m (c.tc.loc main_arg0)))) t h]
    exact run_sum_sq m c t 639
  · dsimp only
    rw [tri_A]

/-- From one point to the next. -/
theorem carry_next (t : Fin cfg0.N) (h : ¬t.val % 25 = 0)
    (ih : CarryOk m c (640 * t.val) (outsAt0 m c (t.val - 1) (Nat.lt_of_le_of_lt (Nat.sub_le _ _) t.isLt))) :
    CarryOk m c (640 * t.val + 640) (outsAt0 m c t.val t.isLt) := by
  rw [outsAt0_B m c t h]
  obtain ⟨i0, i1, i2⟩ := ih
  refine ⟨?_, ?_, ?_⟩
  · dsimp only
    rw [carry0_B, i0, i2, pay5_apply]
    exact run_sum m c t 639
  · dsimp only
    rw [carry1_B, i1, i2, pay6_apply]
    exact run_sum_sq m c t 639
  · exact i2

/-- After every point. -/
theorem carry_all : (n : ℕ) → (hn : n < cfg0.N) → CarryOk m c (640 * n + 640) (outsAt0 m c n hn)
  | 0, hn => carry_first m c ⟨0, hn⟩ (Nat.zero_mod _)
  | n + 1, hn => carry_next m c ⟨n + 1, hn⟩ (by have := lt_25 ⟨n + 1, hn⟩; dsimp only at this ⊢; omega) (carry_all n _)

/-- Before every point but the first. -/
theorem carry_before (t : Fin cfg0.N) (h : ¬t.val % 25 = 0) :
    CarryOk m c (640 * t.val) (outsAt0 m c (t.val - 1) (Nat.lt_of_le_of_lt (Nat.sub_le _ _) t.isLt)) := by
  have key := carry_all m c (t.val - 1) (Nat.lt_of_le_of_lt (Nat.sub_le _ _) t.isLt)
  rwa [show 640 * (t.val - 1) + 640 = 640 * t.val from by have := lt_25 t; omega] at key

/-- An entry of a point's tile, over the prefixes of the columns before the block, is the layer norm's. -/
theorem tile_normed (t : Fin cfg0.N) (y0 : Fin 2048) (y1 : Fin 640) :
    tile (iblk m c 0 t) (iblk m c 1 t) (iblk m c 2 t) (k0_pay1 (F := Ideal)) (prefSum (flat3 (m (c.tc.loc main_arg0))) (640 * t.val))
        (prefSum (sq (flat3 (m (c.tc.loc main_arg0)))) (640 * t.val)) (firstOf (grid0.coords t)) y0 y1
      = normed (m (c.tc.loc main_arg0)) (m (c.tc.loc main_arg1)) (m (c.tc.loc main_arg2)) y0
          ⟨640 * t.val + y1.val, by have := lt_25 t; omega⟩ := by
  unfold tile normed
  rw [mean_apply, istd_apply, run_sum, run_sum_sq, x_block, g_block, b_block, coord_eq]

/-- Every entry of every point's output block is the layer norm's. -/
theorem outs_normed (t : Fin cfg0.N) (y0 : Fin 2048) (y1 : Fin 640) :
    (outsAt0 m c t.val t.isLt).1 (ix2 y0 y1)
      = normed (m (c.tc.loc main_arg0)) (m (c.tc.loc main_arg1)) (m (c.tc.loc main_arg2)) y0
          ⟨640 * t.val + y1.val, by have := lt_25 t; omega⟩ := by
  rw [← tile_normed m c t y0 y1]
  by_cases h : t.val % 25 = 0
  · rw [outsAt0_A m c t h]
    dsimp only
    rw [out_A, ← zeroF_eq (flat3 (m (c.tc.loc main_arg0))) t h, ← zeroF_eq (sq (flat3 (m (c.tc.loc main_arg0)))) t h]
  · obtain ⟨i0, i1, i2⟩ := carry_before m c t h
    rw [outsAt0_B m c t h]
    dsimp only
    rw [out_B, i0, i1, i2]

end Cert.KernelIdeal.Layer

end
-- ==== Proof.Result.lean ====
/- The array the kernel's call returns: at every index the layer norm of its entry. -/
module

public import proofs.«01_k».proof.Proof.Carry

@[expose] public section

set_option maxRecDepth 16384

noncomputable section

namespace Cert.KernelIdeal.Layer

open Cert.KernelIdeal Cert.KernelIdeal.Gen Idealize.ShloMosaic Idealize.ShloMosaic.TcCoe Idealize.SL.Sem

variable (m : (ℓ : Loc nD τ sig) → Buf (Elt Ideal) ℓ) (c : Dev nD)

/-- The kernel's result is the layer norm at every index. -/
theorem result_normed (r : Fin 2048) (j : Fin 16000) :
    Value.G3 m c (ix2 r j) = normed (m (c.tc.loc main_arg0)) (m (c.tc.loc main_arg1)) (m (c.tc.loc main_arg2)) r j := by
  have hr := r.isLt
  have hj := j.isLt
  have hp : Value.pt3Of (ix2 r j) < cfg0.N := by
    refine lt_of_lt_of_eq ?_ N_0.symm
    show 25 * (r.val / 2048 - 0) + 1 * (j.val / 640 - 0) < 25
    omega
  have ht : Value.pt3Of (ix2 r j) = j.val / 640 := by
    show 25 * (r.val / 2048 - 0) + 1 * (j.val / 640 - 0) = _
    omega
  have hl : Value.loc3Of (ix2 r j) = ix2 r ⟨j.val % 640, Nat.mod_lt _ (by decide)⟩ := by
    blk_ext []
  unfold Value.G3
  rw [dif_pos hp, ← Value.outsAt0_sweep, hl]
  refine (outs_normed m c ⟨_, hp⟩ r _).trans ?_
  refine congrArg (normed _ _ _ r) (Fin.ext ?_)
  show 640 * Value.pt3Of (ix2 r j) + j.val % 640 = j.val
  rw [ht]
  omega

end Cert.KernelIdeal.Layer

end
-- ==== Proof.Reference.lean ====
/- The reference read at an index: its running sums are prefix sums of column sums, so its result is the same layer norm. -/
module

public import proofs.«01_k».proof.Proof.Result
public import proofs.«01_k».proof.Proof.Gen.ReferenceIdeal.Run
public import Idealize.ShloMosaic.Lib.Routing.Ops
public import Idealize.ShloMosaic.Lib.IdealHost

@[expose] public section

set_option maxRecDepth 16384

noncomputable section

namespace Cert.ReferenceIdeal.Layer

open Cert.ReferenceIdeal Cert.ReferenceIdeal.Facts Cert.ReferenceIdeal.Gen Idealize.ShloMosaic Idealize.ShloMosaic.TcCoe Idealize.SL.Sem
open Cert.KernelIdeal.Layer (flat3 flat2 colSum prefSum normed meanOf istdOf)
open Idealize.ShloMosaic.Routing (shape1 numel1 symm1)

/-- A left fold whose step adds a term is the start and the terms' sum. -/
theorem foldl_sum {A : Type} (F : EReal → A → EReal) (g : A → EReal) (hF : ∀ r a, F r a = r + g a) (L : List A) (v : EReal) :
    L.foldl F v = v + (L.map g).sum := by
  induction L generalizing v with
  | nil => simp
  | cons a L ih => rw [List.foldl_cons, ih, hF, List.map_cons, List.sum_cons, add_assoc]

/-- A window of `M + 1` places that ends at place `j` holds the terms through `j`. -/
theorem sum_window (M : ℕ) (f : ℕ → EReal) (j : ℕ) (hj : j < M + 1) :
    (∑ n ∈ Finset.range (M + 1), if M ≤ j + n then f (j + n - M) else 0) = ∑ k ∈ Finset.range (j + 1), f k := by
  rw [← Finset.sum_filter]
  refine Finset.sum_bij' (fun n _ => j + n - M) (fun k _ => k + M - j) ?_ ?_ ?_ ?_ ?_
  · intro n hn
    obtain ⟨h1, h2⟩ := Finset.mem_filter.mp hn
    have := Finset.mem_range.mp h1
    exact Finset.mem_range.mpr (by omega)
  · intro k hk
    have := Finset.mem_range.mp hk
    exact Finset.mem_filter.mpr ⟨Finset.mem_range.mpr (by omega), by omega⟩
  · intro n hn
    obtain ⟨h1, h2⟩ := Finset.mem_filter.mp hn
    omega
  · intro k hk
    have := Finset.mem_range.mp hk
    omega
  · intro n hn
    rfl

/-- One place of a running sum's window, from its number: the entry it covers, or the zero of the padding. -/
theorem window_term (N M : ℕ) (hN : M + 1 = N) (x : (shape1 N).Idx → EReal) (f : ℕ → EReal) (hx : ∀ i : Fin N, x (ix1 i) = f i.val) (j w : ℕ) (hj : j < N)
    (hw : w < N) (p : Fin 1 → ℕ) (hp : p 0 = j * 1 + w)
    (D : Decidable (∀ a : Fin (shape1 N).rank, (![M] : Fin 1 → ℕ) a ≤ p a ∧ p a - (![M] : Fin 1 → ℕ) a < (shape1 N).size a)) :
    (@dite EReal _ D (fun hin => x (fun a => ⟨p a - (![M] : Fin 1 → ℕ) a, (hin a).2⟩)) (fun _ => 0))
      = if M ≤ j + w then f (j + w - M) else 0 := by
  by_cases h : M ≤ j + w
  · rw [if_pos h, dif_pos (by
      intro a
      match a with
      | ⟨0, _⟩ =>
        show M ≤ p 0 ∧ p 0 - M < N
        omega)]
    refine (congrArg x (funext fun a => Fin.ext ?_)).trans (hx ⟨j + w - M, by omega⟩)
    match a with
    | ⟨0, _⟩ =>
      show p 0 - M = j + w - M
      omega
  · rw [if_neg h, dif_neg (by
      intro hin
      have h0 : M ≤ p 0 := (hin 0).1
      omega)]

/-- The host's running sum of a vector whose entry `i` is `f i`, at `j`: the sum of `f` through `j`. -/
theorem running_sum (N M : ℕ) (hN : M + 1 = N) (x : FVec Ideal (shape1 N) .f32) (init : FVec Ideal S_ .f32)
    (h : (shape1 N).ReduceWindows (![N] : Fin 1 → ℕ) ![1] ![M] ![0] (shape1 N))
    (hu : 0 < S_.numel) (hinit : init (Shape.Idx.first hu) = (0 : EReal)) (f : ℕ → EReal) (hx : ∀ i : Fin N, x (ix1 i) = f i.val) (j : Fin N) :
    Host.reduceWindowAdd ![N] ![1] ![M] ![0] x init h hu (ix1 j) = ∑ k ∈ Finset.range (j.val + 1), f k := by
  have hj := j.isLt
  rw [← sum_window M f j.val (by omega)]
  show Ideal.hostReduceWindowAdd ![N] ![1] ![M] ![0] h x (init (Shape.Idx.first hu)) (ix1 j) = _
  rw [hinit]
  unfold Ideal.hostReduceWindowAdd Host.reduceWindow
  refine (foldl_sum _ (fun n => if M ≤ j.val + n.val then f (j.val + n.val - M) else 0) (fun r n => ?_) _ _).trans ?_
  · refine congrArg (r + ·) ?_
    refine window_term N M hN x f hx j.val n.val hj (n.cast (numel1 _)).isLt _ ?_ _
    show j.val * 1 + ((shape1 N).rowMajor.symm n 0).val = _
    rw [symm1]
    rfl
  · rw [zero_add, Finset.sum_range, ← Fin.sum_univ_def]
    exact Fintype.sum_equiv (finCongr ((numel1 N).trans hN.symm)) _ _ fun n => rfl

/-- The entries the reference's sum over the first two axes puts at `j`: the column's, numbered by the row of the two axes read as one. -/
theorem column_fiber (h : S4x512x16000.ReducesTo [0, 1] S16000) (j : Fin 16000) (i : S4x512x16000.Idx) :
    h.drop i = ix1 j ↔ ∃ r : Fin 2048, ix3 ⟨r.val / 512, by omega⟩ ⟨r.val % 512, Nat.mod_lt _ (by decide)⟩ j = i := by
  have hd : (h.drop i 0).val = (i 2).val := rfl
  have h0 : (i 0).val < 4 := (i 0).isLt
  have h1 : (i 1).val < 512 := (i 1).isLt
  constructor
  · intro e
    refine ⟨⟨512 * (i 0).val + (i 1).val, by omega⟩, funext fun a => Fin.ext ?_⟩
    match a with
    | ⟨0, _⟩ => show (512 * (i 0).val + (i 1).val) / 512 = (i 0).val; omega
    | ⟨1, _⟩ => show (512 * (i 0).val + (i 1).val) % 512 = (i 1).val; omega
    | ⟨2, _⟩ => exact (congrArg Fin.val (congrFun e 0)).symm.trans hd
  · rintro ⟨r, rfl⟩
    refine funext fun a => Fin.ext ?_
    match a with
    | ⟨0, _⟩ => exact hd

/-- The reference's sum over the first two axes is the column's sum. -/
theorem column_sum (x : FVec Ideal S4x512x16000 .f32) (init : FVec Ideal S_ .f32) (h : S4x512x16000.ReducesTo [0, 1] S16000)
    (hu : 0 < S_.numel) (hinit : init (Shape.Idx.first hu) = (0 : EReal)) (j : Fin 16000) :
    Host.reduceAdd x init h hu (ix1 j) = colSum (flat3 x) j.val := by
  unfold colSum flat3
  rw [dif_pos j.isLt]
  show Ideal.hostReduceAdd h x (init (Shape.Idx.first hu)) (ix1 j) = _
  rw [hinit]
  unfold Ideal.hostReduceAdd
  rw [zero_add]
  refine Finset.sum_filter_eq_sum_of_fiber _ (fun r : Fin 2048 => (ix3 ⟨r.val / 512, by omega⟩ ⟨r.val % 512, Nat.mod_lt _ (by decide)⟩ j : S4x512x16000.Idx))
    (fun r s e => Fin.ext ?_) (column_fiber h j) x
  have e0 : r.val / 512 = s.val / 512 := congrArg Fin.val (congrFun e 0)
  have e1 : r.val % 512 = s.val % 512 := congrArg Fin.val (congrFun e 1)
  omega

/-- The scalar zero the reference starts its sums at. -/
def zero0 : FVec Ideal S_ .f32 := constant S_ .f32 0x00000000#32

/-- The reference's running sums over time. -/
def running (x : FVec Ideal S4x512x16000 .f32) : FVec Ideal S16000 .f32 :=
  Host.reduceWindowAdd ![16000] ![1] ![15999] ![0] (Host.reduceAdd x zero0 reducesTo_S4x512x16000_S16000_d0_1 h_S_)
    (broadcastInDim S_ ![] bcast_S_S_ zero0) reduceWindows_S16000_S16000_w16000s1p15999_0 h_S_

/-- The reference's counts. -/
def counts : FVec Ideal S16000 .f32 :=
  mulf (broadcastInDim S16000 ![] bcast_S_S16000 (constant S_ .f32 0x44000000#32))
    (addf (broadcastInDim S16000 ![] bcast_S_S16000 (constant S_ .f32 0x3F800000#32)) (sitofp .f32 (iotaInDim S16000 32 0)))

/-- The reference's means. -/
def means (p : FVec Ideal S16000 .f32) : FVec Ideal S16000 .f32 := Host.divf p counts

/-- The reference's inverse deviations. -/
def istds (p q : FVec Ideal S16000 .f32) : FVec Ideal S16000 .f32 :=
  Host.rsqrt (addf (addf (Host.divf (subf q (mulf (mulf (broadcastInDim S16000 ![] bcast_S_S16000 (constant S_ .f32 0x40000000#32)) (means p)) p)) counts)
    (mulf (mulf (means p) (means p)) (broadcastInDim S16000 ![] bcast_S_S16000 (constant S_ .f32 0x40800000#32))))
    (broadcastInDim S16000 ![] bcast_S_S16000 zero0))

/-- The reference's result from its arguments. -/
def result (x : FVec Ideal S4x512x16000 .f32) (g b : FVec Ideal S4x512 .f32) : FVec Ideal S2048x16000 .f32 :=
  shapeCast _ (addf (mulf (mulf (broadcastInDim S4x512x16000 ![0, 1, 2] bcast_S4x512x1_S4x512x16000_0_1_2 (broadcastInDim S4x512x1 ![0, 1] bcast_S4x512_S4x512x1_0_1 g))
      (subf x (broadcastInDim S4x512x16000 ![0, 1, 2] bcast_S1x1x16000_S4x512x16000_0_1_2 (broadcastInDim S1x1x16000 ![2] bcast_S16000_S1x1x16000_2 (means (running x))))))
      (broadcastInDim S4x512x16000 ![0, 1, 2] bcast_S1x1x16000_S4x512x16000_0_1_2
        (broadcastInDim S1x1x16000 ![2] bcast_S16000_S1x1x16000_2 (istds (running x) (running (mulf x x))))))
    (broadcastInDim S4x512x16000 ![0, 1, 2] bcast_S4x512x1_S4x512x16000_0_1_2 (broadcastInDim S4x512x1 ![0, 1] bcast_S4x512_S4x512x1_0_1 b)))
    shapeCasts_S4x512x16000_S2048x16000

/-- The reference's run, its result named. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

/-- The running sums at `j`: the prefix sum of the columns through `j`. -/
theorem running_apply (x : FVec Ideal S4x512x16000 .f32) (j : Fin 16000) : running x (ix1 j) = prefSum (flat3 x) (j.val + 1) :=
  running_sum 16000 15999 rfl _ _ _ _ Ideal.ofBits_zero_f32 (colSum (flat3 x)) (fun i => column_sum x _ _ _ Ideal.ofBits_zero_f32 i) j

/-- The counts at `j`. -/
theorem counts_apply (j : Fin 16000) : counts (ix1 j) = KernelIdeal.Layer.count j.val := by
  unfold counts KernelIdeal.Layer.count
  pointwise

/-- The means at `j`. -/
theorem means_apply (p : FVec Ideal S16000 .f32) (j : Fin 16000) : means p (ix1 j) = meanOf (p (ix1 j)) (KernelIdeal.Layer.count j.val) := by
  rw [← counts_apply]
  unfold means meanOf
  pointwise

/-- The inverse deviations at `j`: adding the zero offset changes nothing. -/
theorem istds_apply (p q : FVec Ideal S16000 .f32) (j : Fin 16000) : istds p q (ix1 j) = istdOf (p (ix1 j)) (q (ix1 j)) (KernelIdeal.Layer.count j.val) := by
  rw [← counts_apply]
  unfold istds means istdOf zero0
  generalize counts = d
  pointwise

/-- The reference's result is the layer norm at every index. -/
theorem result_normed (x : FVec Ideal S4x512x16000 .f32) (g b : FVec Ideal S4x512 .f32) (r : Fin 2048) (j : Fin 16000) :
    result x g b (ix2 r j) = normed x g b r j := by
  unfold normed
  rw [← running_apply, ← means_apply, show KernelIdeal.Layer.sq (flat3 x) = flat3 (mulf x x) from rfl, ← running_apply, ← istds_apply]
  unfold result flat3 flat2
  generalize means _ = p
  generalize istds _ _ = q
  pointwise
  rw [mul_assoc (g _), mul_comm (g _)]

end Cert.ReferenceIdeal.Layer

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Result
public import proofs.«01_k».proof.Proof.Reference
public import Idealize.ShloMosaic.Lib.Quiescent

@[expose] public section

set_option maxRecDepth 16384

noncomputable section

namespace Cert.Proof

open Idealize.ShloMosaic Idealize.SL.Sem

/-- The reference runs, keeps its arguments and leaves every counter at zero: it has no semaphores. -/
theorem frame_reference : Cert.quiescent_ReferenceIdeal := fun m g _ =>
  (θ_run _ _ _).mono (fun r h => ⟨fun c => (h c).2, sem_eq_zero_of_no_sems (by decide) _⟩) (Cert.ReferenceIdeal.Layer.run_result m g)

/-- The kernel's array is the reference's, from equal arguments. -/
theorem results_eq (m : (ℓ : Loc Cert.KernelIdeal.nD Cert.KernelIdeal.τ Cert.KernelIdeal.sig) → Buf (Elt Ideal) ℓ) (c : Dev Cert.KernelIdeal.nD) :
    Cert.ReferenceIdeal.Layer.result (m (c.tc.loc Cert.KernelIdeal.main_arg0)) (m (c.tc.loc Cert.KernelIdeal.main_arg1))
        (m (c.tc.loc Cert.KernelIdeal.main_arg2))
      = Cert.KernelIdeal.Value.G3 m c := by
  funext i
  rw [show i = ix2 (i 0) (i 1) from funext fun a => by
    match a with
    | ⟨0, _⟩ => rfl
    | ⟨1, _⟩ => rfl]
  exact (Cert.ReferenceIdeal.Layer.result_normed _ _ _ _ _).trans (Cert.KernelIdeal.Layer.result_normed m c _ _).symm

/-- The kernel and the reference end with the same result, from equal arguments. -/
theorem same_result : Cert.algebraic_KernelIdeal_ReferenceIdeal := fun m g m' g' _ h =>
  ⟨fun c => Cert.KernelIdeal.Value.G3 m c, Cert.KernelIdeal.Value.run m g,
    (θ_run _ _ _).mono (fun r hr c => ⟨(hr c).1.trans (by rw [(h c).1, (h c).2.1, (h c).2.2]; exact results_eq m c), (hr c).2⟩)
      (Cert.ReferenceIdeal.Layer.run_result m' g')⟩

/-- The claims together. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, trivial, same_result⟩

end Cert.Proof

end
